-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1024 : Shape := ⟨2, ![512, 1024]⟩
abbrev S1024x512 : Shape := ⟨2, ![1024, 512]⟩
abbrev S512x512 : Shape := ⟨2, ![512, 512]⟩
abbrev S_ : Shape := ⟨0, ![]⟩

abbrev nBuf : Space → Nat
  | .hbm => 2
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | .local _ .vmem, ⟨0, _⟩ => ⟨S512x1024, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0 : Index := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let v12 : Index := Scalar.indexCast v11
  ![0, v12.toNat]
def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7 : BitVec 32 := 8#32
  let v20 : BitVec 32 := Scalar.muli v9 c8_i32_7
  let v21 : BitVec 32 := Scalar.addi c0_i32 v20
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v22 : BitVec 32 := Scalar.muli v5 c4_i32_8
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v24 : BitVec 32 := Scalar.muli v8 c1_i32_9
  let v25 : BitVec 32 := Scalar.addi v23 v24
  v25.toNat
def k0_dev2 (d0 : Dev nD) : Nat :=
  let c0_i32_12 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_11 : BitVec 32 := 8#32
  let v26 : BitVec 32 := Scalar.muli v9 c8_i32_11
  let v27 : BitVec 32 := Scalar.addi c0_i32_12 v26
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v28 : BitVec 32 := Scalar.muli v5 c4_i32_13
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v30 : BitVec 32 := Scalar.muli v8 c1_i32_14
  let v31 : BitVec 32 := Scalar.addi v29 v30
  v31.toNat
def k0_off2 (d0 : Dev nD) : Fin 2 → Nat :=
  let c0_16 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_15 : BitVec 32 := 512#32
  let v32 : BitVec 32 := Scalar.muli v2 c512_i32_15
  let v33 : Index := Scalar.indexCast v32
  ![0, v33.toNat]
def k0_off3 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_17 : BitVec 32 := 512#32
  let v36 : BitVec 32 := Scalar.muli v2 c512_i32_17
  let v37 : Index := Scalar.indexCast v36
  let c0_18 : Index := 0#32
  ![v37.toNat, 0]
def k0_off4 (d0 : Dev nD) : Fin 2 → Nat :=
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_26 v2
  let c512_i32_27 : BitVec 32 := 512#32
  let v48 : BitVec 32 := Scalar.muli v47 c512_i32_27
  let v49 : Index := Scalar.indexCast v48
  let c0_28 : Index := 0#32
  ![v49.toNat, 0]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Contents.lean ====
/-
  What the kernel's buffers hold, as plain functions of the memory it starts from.

  The sixteen devices fall into eight pairs: a device and its `mate`, the one with the other coordinate on the mesh's
  first axis. Device `c` sits on side `c / 8`. It starts with a 512 × 1024 block of rows (`xOf`), keeps the 512 columns
  of its own side (`kept`), sends the other 512 columns, narrowed to bf16, to its mate (`sent`), and ends with a
  1024 × 512 block (`result`): the rows of its own side are the kept block, the other rows are what the mate sent,
  widened again. `result_of_stores` says that the kernel's two stores leave exactly that, whatever was there before.
-/
module

public import proofs.«01_k».proof.Proof.Gen.KernelIdeal
public import proofs.«01_k».proof.Proof.Gen.KernelIdeal.Skeleton
public import Idealize.ShloMosaic.Lib.WritesUnit

@[expose] public section

noncomputable section

namespace Cert.Swap

open Cert.KernelIdeal Cert.KernelIdeal.Gen
open Idealize.ShloMosaic Idealize.ShloMosaic.TcCoe Idealize.SL.Sem

variable {F : FTy → Type} [FloatOps F]

/-! ## Pairs of devices -/

set_option backward.proofsInPublic true in
/-- The device that `c` swaps blocks with: the other coordinate on the first mesh axis, the same on the rest. -/
def mate (c : Dev nD) : Dev nD := ⟨(c.val + 8) % 16, Nat.mod_lt _ (by decide)⟩

/-- Swapping is mutual. -/
theorem mate_mate (c : Dev nD) : mate (mate c) = c := by revert c; decide

/-- The devices, each sent to its mate. -/
def pairing : Dev nD ≃ Dev nD := ⟨mate, mate, mate_mate, mate_mate⟩

/-- A mate is on the other side. -/
theorem side_mate (c : Dev nD) : (mate c).val / 8 = 1 - c.val / 8 := by revert c; decide

theorem side_le (c : Dev nD) : c.val / 8 ≤ 1 := by revert c; decide

/-- The device the kernel signals is the mate. -/
theorem signalled_eq (c : Dev nD) : (⟨k0_dev1 c, k0_dev1_lt c⟩ : Dev nD) = mate c :=
  Fin.ext ((k0_dev1_eq c).trans (by revert c; decide))

/-- The device the kernel sends to is the mate. -/
theorem target_eq (c : Dev nD) : (⟨k0_dev2 c, k0_dev2_lt c⟩ : Dev nD) = mate c :=
  Fin.ext ((k0_dev2_eq c).trans (by revert c; decide))

/-! ## The buffers -/

/-- The staged input, the staged result, the buffer sent from and the buffer received into. -/
abbrev inB : Memref sig .tc .vmem S512x1024 .f32 := Memref.whole cc0_stg0_0
abbrev outB : Memref sig .tc .vmem S1024x512 .f32 := Memref.whole cc0_stg1_0
abbrev sendB : Memref sig .tc .vmem S512x512 .bf16 := Memref.whole cc0_scratch0
abbrev recvB : Memref sig .tc .vmem S512x512 .bf16 := Memref.whole cc0_scratch1

/-- The columns of the input that go to the mate, and those that stay. -/
abbrev farCols (c : Dev nD) : Rect S512x1024 := Rect.unit (s := S512x1024) (k0_off1 c) S512x512.size (k0_off1_inb c)
abbrev nearCols (c : Dev nD) : Rect S512x1024 := Rect.unit (s := S512x1024) (k0_off2 c) S512x512.size (k0_off2_inb c)
/-- The rows of the result of the device's own side, and of its mate's. -/
abbrev nearRows (c : Dev nD) : Rect S1024x512 := Rect.unit (s := S1024x512) (k0_off3 c) S512x512.size (k0_off3_inb c)
abbrev farRows (c : Dev nD) : Rect S1024x512 := Rect.unit (s := S1024x512) (k0_off4 c) S512x512.size (k0_off4_inb c)
/-- The whole of a 512 × 512 buffer. -/
abbrev allOf : Rect S512x512 := Rect.unit (s := S512x512) ![0, 0] S512x512.size inb_S512x512_S512x512_0_0

omit [FloatOps F] in
theorem zeros : (![0, 0] : Fin 2 → Nat) = fun _ => 0 := funext fun a => by fin_cases a <;> rfl

/-- Reading the whole buffer received into gives its contents. -/
theorem read_recv (f : (cc0_scratch1 : Ref sig .tc).ty.Contents (Elt F)) : recvB.view.readAt (Elt F) allOf.toLoadRect f = f :=
  Memref.readAt_unit_zero (Elt F) cc0_scratch1 zeros _ f

/-- Storing to the whole buffer sent from leaves what was stored. -/
theorem store_send (f w : (cc0_scratch0 : Ref sig .tc).ty.Contents (Elt F)) :
    (sendB.access allOf : View sig .tc _ _ _).write (Elt F) f w Finset.univ = w :=
  Memref.write_access_unit_zero_univ (Elt F) cc0_scratch0 zeros _ f w

/-- A transfer of the whole buffer sent from leaves its contents in the buffer received into. -/
theorem transfer_eq (d : Dev nD) (fd : Buf (Elt F) (recvB.view.loc (d : Thread nD τ))) (f : (cc0_scratch0 : Ref sig .tc).ty.Contents (Elt F)) :
    recvB.view.write (Elt F) fd (sendB.view.read (Elt F) f) Finset.univ = f := by
  show (View.whole cc0_scratch1).write (Elt F) fd ((View.whole cc0_scratch0).read (Elt F) f) Finset.univ = f
  rw [View.read_whole]
  exact View.write_whole_univ _ _ _

/-! ## Their contents -/

variable (m : (ℓ : Loc nD τ sig) → Buf (Elt F) ℓ)

/-- Device `c`'s block of the argument. -/
def xOf (c : Dev nD) : FVec F S512x1024 .f32 := m ((c : Thread nD τ).loc main_arg0)

/-- The columns device `c` keeps. -/
def kept (c : Dev nD) : FVec F S512x512 .f32 := k0_pay1 (inB.view.readAt (Elt F) (nearCols c).toLoadRect (xOf m c))

/-- The columns device `c` sends, narrowed. -/
def sent (c : Dev nD) : FVec F S512x512 .bf16 := k0_pay3 (inB.view.readAt (Elt F) (farCols c).toLoadRect (xOf m c))

/-- What device `c` receives from its mate, widened. -/
def received (c : Dev nD) : FVec F S512x512 .f32 := k0_pay2 (sent m (mate c))

/-- The place in a 512 × 512 block of place `i` of the result: the row counted from the start of its half. -/
def within (i : S1024x512.Idx) : S512x512.Idx :=
  fun a => match a with
    | ⟨0, _⟩ => ⟨(i 0).val % 512, Nat.mod_lt _ (Nat.succ_pos 511)⟩
    | ⟨1, _⟩ => ⟨(i 1).val, (i 1).isLt⟩

/-- Device `c`'s result: its own side's rows from what it kept, the others from what it received. -/
def result (c : Dev nD) : FVec F S1024x512 .f32 :=
  fun i => if (i 0).val / 512 = c.val / 8 then kept m c (within i) else received m c (within i)

/-- The two stores into the result's buffer, whatever it held, leave `result`. -/
theorem result_of_stores (c : Dev nD) (g : (cc0_stg1_0 : Ref sig .tc).ty.Contents (Elt F)) :
    (outB.access (farRows c) : View sig .tc _ _ _).write (Elt F)
        ((outB.access (nearRows c) : View sig .tc _ _ _).write (Elt F) g (kept m c) Finset.univ) (received m c) Finset.univ
      = result m c := by
  refine (View.read_whole (Val := Elt F) cc0_stg1_0 _).symm.trans ?_
  refine Eq.trans (b := outB.view.read (Elt F) (outB.view.writes (Elt F) g [⟨farRows c, received m c⟩, ⟨nearRows c, kept m c⟩])) rfl ?_
  have hs := side_le c
  funext i
  have hi : (i 0).val < 1024 := (i 0).isLt
  have hfar : ∀ x : S512x512.Idx, (i 0).val = (512 - 512 * (c.val / 8)) + (x 0).val → (i 1).val = (x 1).val →
      outB.view.read (Elt F) (outB.view.writes (Elt F) g [⟨farRows c, received m c⟩, ⟨nearRows c, kept m c⟩]) i = received m c x :=
    fun x h0 h1 => View.read_writes_cons_rows_of_mem (d := ![1024, 512]) outB.view g (k0_off4_inb c) (received m c) _ i x (k0_off4_eq c) h0 h1
  have hmiss : (i 0).val < 512 - 512 * (c.val / 8) ∨ (512 - 512 * (c.val / 8)) + 512 ≤ (i 0).val →
      outB.view.read (Elt F) (outB.view.writes (Elt F) g [⟨farRows c, received m c⟩, ⟨nearRows c, kept m c⟩]) i
        = outB.view.read (Elt F) (outB.view.writes (Elt F) g [⟨nearRows c, kept m c⟩]) i :=
    fun h => View.read_writes_cons_rows_of_not_mem (d := ![1024, 512]) outB.view g (k0_off4_inb c) (received m c) _ i (k0_off4_eq c) rfl h
  have hnear : ∀ x : S512x512.Idx, (i 0).val = 512 * (c.val / 8) + (x 0).val → (i 1).val = (x 1).val →
      outB.view.read (Elt F) (outB.view.writes (Elt F) g [⟨nearRows c, kept m c⟩]) i = kept m c x :=
    fun x h0 h1 => View.read_writes_cons_rows_of_mem (d := ![1024, 512]) outB.view g (k0_off3_inb c) (kept m c) _ i x (k0_off3_eq c) h0 h1
  unfold result
  by_cases h : (i 0).val / 512 = c.val / 8
  · rw [if_pos h, hmiss (by omega)]
    refine hnear (within i) ?_ rfl
    show (i 0).val = 512 * (c.val / 8) + (i 0).val % 512
    omega
  · rw [if_neg h]
    refine hfar (within i) ?_ rfl
    show (i 0).val = (512 - 512 * (c.val / 8)) + (i 0).val % 512
    omega

end Cert.Swap

end
-- ==== Proof.Protocol.lean ====
/-
  What passes between the sixteen devices, and when.

  Each device has three counters the kernel waits on. Its `gate` is raised by one by its mate, which by that hands over
  the buffer it receives into. Its `depart` counter is raised when its own transfer has left, which gives the sent
  buffer back; its `arrive` counter when its mate's transfer has landed, which gives the received buffer back, filled.
  Each counter is waited on once, so the schedule has one round with one duty on every counter.

  A device owes its mate one unit at the gate and one transfer at `arrive`; nobody waits at a gate while a gate is
  still owed, and nobody waits for an arrival while anything is owed, so ranking `arrive` above `gate` above all other
  counters shows that no wait is forever.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the launch's own, and that of a schedule with one kind of duty. -/
abbrev Duties : Type := URounds (GSem nD τ sig) Unit
abbrev Ghost : Type := UR sig nD τ × Duties

local notation "𝕄" => MT nD τ sig Unit (Elt F) ℕ Ghost ℕ

abbrev EP : Emb (UR sig nD τ) (MT nD τ sig Unit (Elt F) ℕ Ghost ℕ) := embL
abbrev ER : Emb Duties (MT nD τ sig Unit (Elt F) ℕ Ghost ℕ) := embR

/-! ## The counters -/

/-- The three things a device waits for. -/
inductive Port
  | gate
  | depart
  | arrive
  deriving DecidableEq

instance : Fintype Port := ⟨{.gate, .depart, .arrive}, fun p => by cases p <;> decide⟩

/-- The runtime's barrier counter. -/
abbrev gateSem : Sem sig := (SemArray.scalar (sig.barrier 0 rfl) : Sems sig S_).sem

/-- Which counter of a device a port is. -/
abbrev Port.sem : Port → SemLoc sig
  | .gate => .reg gateSem
  | .depart => .dma cc0_scratch2.sem
  | .arrive => .dma cc0_scratch3.sem

/-- The port, if any, that a counter is. -/
def portOf (s : SemLoc sig) : Option Port :=
  if s = Port.sem .gate then some .gate else if s = Port.sem .depart then some .depart
  else if s = Port.sem .arrive then some .arrive else none

theorem portOf_sem (p : Port) : portOf p.sem = some p := by cases p <;> decide

/-- Port `p` of device `c`. -/
abbrev cell (p : Port) (c : Dev nD) : GSem nD τ sig := ((c : Thread nD τ), p.sem)

/-- Different ports, or ports of different devices, are different counters. -/
theorem cell_inj : Function.Injective fun pc : Port × Dev nD => cell pc.1 pc.2 := by
  rintro ⟨p, c⟩ ⟨q, d⟩ h
  have hp : p = q := by
    have h' := congrArg portOf (congrArg Prod.snd h)
    rw [portOf_sem, portOf_sem] at h'
    exact Option.some.inj h'
  have hc : c = d := congrArg (fun g : GSem nD τ sig => g.1.1) h
  rw [hp, hc]

/-- What one transfer of a whole buffer raises a counter by. -/
abbrev N : ℕ := recvB.view.dmaCredit
theorem N_pos : 0 < N := View.dmaCredit_pos _ (by decide)

/-- What a port is raised by. -/
def units : Port → ℕ
  | .gate => 1
  | .depart => N
  | .arrive => N

theorem units_pos (p : Port) : 0 < units p := by cases p <;> first | exact Nat.one_pos | exact N_pos

variable (m : (ℓ : Loc nD τ sig) → Buf (Elt F) ℓ)

/-! ## What is handed over -/

/-- Device `c`'s buffer sent from, or received into, with contents `f`. -/
def sendPts (c : Dev nD) (f : Buf (Elt F) (sendB.view.loc (c : Thread nD τ))) : sProp 𝕄 :=
  sendB.view.loc (c : Thread nD τ) ↦[sendB.view.set]{fullShare} f
def recvPts (c : Dev nD) (f : Buf (Elt F) (recvB.view.loc (c : Thread nD τ))) : sProp 𝕄 :=
  recvB.view.loc (c : Thread nD τ) ↦[recvB.view.set]{fullShare} f

omit [FloatOps F] in
/-- Either is the ordinary ownership of the whole buffer. -/
theorem sendPts_eq (c : Dev nD) (f : Buf (Elt F) ((c : Thread nD τ).loc cc0_scratch0)) :
    sendPts c f = (((c : Thread nD τ).loc cc0_scratch0) ↦{fullShare} f : sProp 𝕄) := by
  unfold sendPts; rw [show sendB.view.set = Finset.univ from View.set_whole _]
omit [FloatOps F] in
theorem recvPts_eq (c : Dev nD) (f : Buf (Elt F) ((c : Thread nD τ).loc cc0_scratch1)) :
    recvPts c f = (((c : Thread nD τ).loc cc0_scratch1) ↦{fullShare} f : sProp 𝕄) := by
  unfold recvPts; rw [show recvB.view.set = Finset.univ from View.set_whole _]

/-- What device `c` gets by waiting at a port: its mate's buffer to send into, its own sent buffer back, or its own
    received buffer back. -/
def pays (p : Port) (c : Dev nD) : sProp 𝕄 :=
  match p with
  | .gate => iprop((∃ f, recvPts (mate c) f) ∗ reached ER (cell .arrive (mate c)) 0)
  | .depart => sendPts c (sent m c)
  | .arrive => recvPts c (sent m (mate c))

instance pays_storable (p : Port) (c : Dev nD) : BI.Storable (upEmb : UEmb _ 𝕄) (pays m p c) := by
  cases p <;> (unfold pays; dsimp only; first | unfold sendPts | unfold recvPts) <;> infer_instance

/-- What waiting at a counter gives, which is nothing if it is no port. -/
def paysAt (s : SemLoc sig) (c : Dev nD) : sProp 𝕄 :=
  match portOf s with
  | some p => pays m p c
  | none => iprop(emp)

instance paysAt_storable (s : SemLoc sig) (c : Dev nD) : BI.Storable (upEmb : UEmb _ 𝕄) (paysAt m s c) := by
  unfold paysAt; split <;> infer_instance

/-- One round, with one duty on every port. -/
def plan : Rounds.Schedule (GSem nD τ sig) Unit 𝕄 where
  duties g r := if r = 0 ∧ g.1.2 = .tc ∧ (portOf g.2).isSome then {()} else ∅
  unitless _ := False
  amount g _ _ := (portOf g.2).elim 1 units
  payload g _ _ := paysAt m g.2 g.1.1
  amount_pos g _ _ _ := by
    cases portOf g.2 with
    | none => exact Nat.one_pos
    | some p => exact units_pos p

instance plan_payload_storable (g : GSem nD τ sig) (r : ℕ) (d : Unit) :
    BI.Storable (upEmb : UEmb _ 𝕄) ((plan m).payload g r d) := paysAt_storable m g.2 g.1.1

section Plan
variable (p : Port) (c : Dev nD)

theorem plan_duties : (plan m).duties (cell p c) 0 = {()} :=
  if_pos ⟨rfl, rfl, by show (portOf p.sem).isSome = true; rw [portOf_sem]; rfl⟩

theorem plan_duty : () ∈ (plan m).duties (cell p c) 0 := by rw [plan_duties]; exact Finset.mem_singleton_self _

theorem plan_over (g : GSem nD τ sig) : ∀ r, 1 ≤ r → (plan m).duties g r = ∅ :=
  fun r hr => if_neg fun h => by omega

theorem plan_amount : (plan m).amount (cell p c) 0 () = units p := by
  show (portOf p.sem).elim 1 units = units p
  rw [portOf_sem]; rfl

theorem plan_payload : (plan m).payload (cell p c) 0 () = pays m p c := by
  show paysAt m p.sem c = pays m p c
  unfold paysAt; rw [portOf_sem]

theorem plan_expect : (plan m).expect (cell p c) 0 = units p := by
  unfold Schedule.expect Schedule.amountOf
  rw [plan_duties, Finset.sum_singleton, plan_amount]

theorem plan_rest : bigSep ((plan m).duties (cell p c) 0 \ ∅) (fun d => (plan m).payload (cell p c) 0 d) = pays m p c := by
  rw [Finset.sdiff_empty, plan_duties, bigSep_singleton, plan_payload]

end Plan

/-! ## What is owed, and the ranks -/

/-- Device `c` owes its mate a transfer and a unit at the gate; the unit is paid first. -/
def debt (c : Dev nD) : CellTallies nD τ sig Unit := tallyAt (cell .arrive (mate c)) () N
def debts (c : Dev nD) : CellTallies nD τ sig Unit := debt c + tallyAt (cell .gate (mate c)) () 1

/-- The rank of a counter. -/
def rank (s : SemLoc sig) : ℕ :=
  match portOf s with
  | some .gate => 1
  | some .arrive => 2
  | _ => 0

def L (g : GSem nD τ sig) : Finset Unit := if g.1.2 = .tc then {()} else ∅
def lv (g : GSem nD τ sig) (_ : Unit) : ℕ := rank g.2

theorem L_of_ne (g : GSem nD τ sig) (h : g.1.2 ≠ .tc) : L g = ∅ := if_neg h
theorem L_tc (c : Dev nD) (s : SemLoc sig) : L ((c : Thread nD τ), s) = {()} := if_pos rfl

theorem rank_gate : rank (Port.sem .gate) = 1 := by unfold rank; rw [portOf_sem]
theorem rank_arrive : rank (Port.sem .arrive) = 2 := by unfold rank; rw [portOf_sem]

theorem debt_at {c : Dev nD} {g : GSem nD τ sig} {u : Unit} (h : 0 < debt c g u) : g = cell .arrive (mate c) := by
  unfold debt at h
  rw [tallyAt_apply] at h
  by_contra hn
  rw [if_neg (fun h' => hn h'.1)] at h
  exact Nat.lt_irrefl 0 h

theorem debts_at {c : Dev nD} {g : GSem nD τ sig} {u : Unit} (h : 0 < debts c g u) :
    g = cell .arrive (mate c) ∨ g = cell .gate (mate c) := by
  unfold debts at h
  rw [Pi.add_apply, Finsupp.add_apply, tallyAt_apply] at h
  by_contra hn
  rw [not_or] at hn
  rw [if_neg (fun h' => hn.2 h'.1), Nat.add_zero] at h
  exact hn.1 (debt_at h)

omit [FloatOps F] in
/-- A device may wait at a counter ranked below everything it owes. -/
theorem may_wait (c : Dev nD) (s : SemLoc sig) (O : CellTallies nD τ sig Unit)
    (h : ∀ g u, 0 < O g u → ∃ p d, g = cell p d ∧ rank s < rank p.sem) :
    (levAts L lv : sProp 𝕄) ⊢ MayWait (c : Thread nD τ) s () O :=
  MayOwe.of_cut (L := L) (lev := lv) (rank s)
    (fun w hw => by rw [Finset.mem_singleton.mp hw, L_tc]; exact Finset.mem_singleton_self _)
    (fun g u hg => by obtain ⟨p, d, rfl, -⟩ := h g u hg; rw [L_tc]; exact Finset.mem_singleton_self _)
    (fun w hw => by rw [Finset.mem_singleton.mp hw]; exact le_refl _)
    (fun g u hg => by obtain ⟨p, d, rfl, hr⟩ := h g u hg; exact hr)

omit [FloatOps F] in
/-- At its gate, a device owes only its transfer. -/
theorem may_wait_gate (c : Dev nD) : (levAts L lv : sProp 𝕄) ⊢ MayWait (c : Thread nD τ) (Port.sem .gate) () (debt c) :=
  may_wait c _ _ fun _ _ hg => ⟨.arrive, mate c, debt_at hg, by rw [rank_gate, rank_arrive]; decide⟩

omit [FloatOps F] in
/-- At a counter of rank nought, it may owe everything. -/
theorem may_wait_low (c : Dev nD) (s : SemLoc sig) (hs : rank s = 0) :
    (levAts L lv : sProp 𝕄) ⊢ MayWait (c : Thread nD τ) s () (debts c) :=
  may_wait c _ _ fun _ _ hg => (debts_at hg).elim (fun h => ⟨.arrive, mate c, h, by rw [hs, rank_arrive]; decide⟩)
    fun h => ⟨.gate, mate c, h, by rw [hs, rank_gate]; decide⟩

/-! ## What a device starts from -/

/-- The device that raises a port, seen from the one that holds the duty: device `c` pays port `p` of `payee p c`. -/
def payee : Port → Dev nD ≃ Dev nD
  | .gate => pairing
  | .depart => Equiv.refl _
  | .arrive => pairing

/-- Every port's invariant, and that its round has begun. -/
def records (K : Port × Dev nD → ℕ) : sProp 𝕄 :=
  iprop((bigSep Finset.univ fun pc : Port × Dev nD => cellInv ER (plan m) (K pc) (cell pc.1 pc.2))
    ∗ bigSep Finset.univ fun pc : Port × Dev nD => reached ER (cell pc.1 pc.2) 0)

instance records_persistent (K : Port × Dev nD → ℕ) : BI.Persistent (records m K) := by unfold records; infer_instance

theorem records_inv (K : Port × Dev nD → ℕ) (p : Port) (c : Dev nD) :
    records m K ⊢ cellInv ER (plan m) (K (p, c)) (cell p c) := by
  unfold records
  exact sep_elim_left.trans (bigSep_elim (Finset.mem_univ (p, c)))

theorem records_reached (K : Port × Dev nD → ℕ) (p : Port) (c : Dev nD) :
    records m K ⊢ reached ER (cell p c) 0 := by
  unfold records
  exact sep_elim_right.trans (bigSep_elim (Finset.mem_univ (p, c)))

/-- Device `c` is at the start of its three ports' round and holds the duties it pays. -/
def places (c : Dev nD) : sProp 𝕄 :=
  iprop((bigSep Finset.univ fun p : Port => atPos ER (cell p c) 0 ∅ 0)
    ∗ bigSep Finset.univ fun p : Port => dutyTok ER (cell p (payee p c)) 0 ())

/-- The same as a list. -/
theorem places_eq (c : Dev nD) : places (F := F) c
    = iprop((atPos ER (cell .gate c) 0 ∅ 0 ∗ atPos ER (cell .depart c) 0 ∅ 0 ∗ atPos ER (cell .arrive c) 0 ∅ 0)
      ∗ dutyTok ER (cell .gate (mate c)) 0 () ∗ dutyTok ER (cell .depart c) 0 () ∗ dutyTok ER (cell .arrive (mate c)) 0 ()) := by
  unfold places
  rw [bigSep_univ_eq_bigSepL [Port.gate, .depart, .arrive] (by decide) (by decide),
    bigSep_univ_eq_bigSepL [Port.gate, .depart, .arrive] (by decide) (by decide)]
  rfl

/-- What device `c`'s kernel starts from: the above, the credit for its gate and its arrival, and the ranks. -/
def start (c : Dev nD) : sProp 𝕄 :=
  iprop((∃ K, records m K ∗ places c) ∗ (cred (tallyAt (cell .gate c) () 1) ∗ cred (tallyAt (cell .arrive c) () N)) ∗ levAts L lv)

/-- Before the kernel: that, and its two buffers with anything in them. After it: the buffers with what was sent and
    received, and all three counters at zero. -/
def before (c : Dev nD) : sProp 𝕄 := iprop(start m c ∗ (∃ f, sendPts c f) ∗ ∃ f, recvPts c f)
def after (c : Dev nD) : sProp 𝕄 :=
  iprop(sendPts c (sent m c) ∗ recvPts c (sent m (mate c))
    ∗ semVal (cell .gate c) 0 ∗ semVal (cell .depart c) 0 ∗ semVal (cell .arrive c) 0)

end Cert.Swap

end
-- ==== Proof.Body.lean ====
/-
  One device's kernel, run step by step.

  `wp_collect` is a wait at one of the device's ports: it gives what the port pays and leaves the counter at zero for
  good. `wp_give` is the transfer to the mate. `kernel_run` follows the kernel's own order: narrow and store the
  columns that go, meet the mate, send, write the kept block, wait for both ends of the transfers, write the received
  block.
-/
module

public import proofs.«01_k».proof.Proof.Protocol
public import proofs.«01_k».proof.Proof.Gen.KernelIdeal.Launch
public import Idealize.ShloMosaic.Lib.Pipeline.ValueKit.Geometry

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

variable (m : (ℓ : Loc nD τ sig) → Buf (Elt F) ℓ)

abbrev 𝒱₀ : Variants := Variants.none

/-! ## The steps that meet the mate -/

/-- A wait at port `p` gives what the port pays, and its counter stays at zero. -/
theorem wp_collect (K : Port × Dev nD → ℕ) (c : Dev nD) (p : Port) {α : Type} {Q : α → sProp 𝕄}
    {w : TpuEff nD τ sig (Elt F) Λ₀ .tc PUnit} {k : PUnit → Prog (TpuEff nD τ sig (Elt F) Λ₀ .tc) α}
    (hw : ∀ J : PUnit → sProp 𝕄, wpE (defs₀ (F := F)) 𝒱₀ (c : Thread nD τ) none Set.univ w J
      = waitSpec (c : Thread nD τ) Set.univ p.sem (units p) J)
    (O : CellTallies nD τ sig Unit) (W : Waits sig Unit) :
    iprop(records m K ∗ cred (tallyAt (cell p c) () (units p)) ∗ owes (c : Thread nD τ) O W
        ∗ MayWait (c : Thread nD τ) p.sem () O ∗ atPos ER (cell p c) 0 ∅ 0)
      ⊢ iprop((owes (c : Thread nD τ) O (insert (p.sem, ()) W) ∗ semVal (cell p c) 0 ∗ pays m p c
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HR, Hcr, HO, HM, Hat⟩ Hk
  ihave #HI := (records_inv m K p c) $$ HR
  iapply (Rounds.wp_wait_rest_token 𝒱₀ ER (plan m) (c : Thread nD τ) none (κ := K (p, c)) hw (Set.mem_univ _) ()
      (O := O) (W := W) (R := 0) (m := 0) (T := ∅) (by rw [Nat.zero_add, plan_expect])) $$ [Hcr HO HM Hat]
  · isplitr; · iexact HI
    isplitl [Hcr]; · iexact Hcr
    isplitl [HO]; · iexact HO
    isplitl [HM] <;> iassumption
  iintro ⟨HO, Hat, -, Hpay⟩
  ihave Hp := (Entails.of_eq (plan_rest m p c)) $$ Hpay
  imod (Rounds.cell_close ER (plan m) (Set.mem_univ (K (p, c))) (fun h => h) (R := 0 + 1) (plan_over m (cell p c))) $$ [Hat] with Hz
  · isplitr; · iexact HI
    iexact Hat
  iapply Hk
  isplitl [HO]; · iexact HO
  isplitl [Hz] <;> iassumption

/-- The transfer to the mate, `n`: it takes what is sent and the mate's buffer, pays the debt, and gives the credit for
    waiting until it has left. -/
theorem wp_give (K : Port × Dev nD → ℕ) (c n : Dev nD) (hn : n = mate c)
    {hsc : (recvB : Memref sig (Dev.tc n : Thread nD τ).2.kind .vmem S512x512 .bf16).view.ref.isScScratch = false}
    {hsrc : sendB.view.WordExact} {hdst : recvB.view.WordExact}
    {hsem : DmaTarget.Typed .vmem (Port.sem .arrive) (.remote (Dev.tc n : Thread nD τ) recvB (Port.sem .depart) hsc)}
    {α : Type} {Q : α → sProp 𝕄} {k : PUnit → Prog (TpuEff nD τ sig (Elt F) Λ₀ .tc) α}
    (f : Buf (Elt F) (recvB.view.loc (mate c : Thread nD τ))) (W : Waits sig Unit) :
    iprop(records m K ∗ sendPts c (sent m c) ∗ recvPts (mate c) f ∗ owes (c : Thread nD τ) (debt c) W
        ∗ dutyTok ER (cell .depart c) 0 () ∗ dutyTok ER (cell .arrive (mate c)) 0 ())
      ⊢ iprop(((cred (tallyAt (cell .depart c) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendB (.remote (Dev.tc n : Thread nD τ) recvB (Port.sem .depart) hsc) (Port.sem .arrive) hsrc hdst hsem) k) Q) := by
  subst hn
  iintro ⟨#HR, Hs, Hr, HO, Htd, Hta⟩ Hk
  ihave #HId := (records_inv m K .depart c) $$ HR
  ihave #HIa := (records_inv m K .arrive (mate c)) $$ HR
  ihave #Hrd := (records_reached m K .depart c) $$ HR
  ihave #Hra := (records_reached m K .arrive (mate c)) $$ HR
  unfold sendPts recvPts
  iapply (Rounds.wp_send_pointsTo 𝒱₀ ER (plan m) (c : Thread nD τ) none (κ₁ := K (.depart, c)) (κ₂ := K (.arrive, mate c))
    (r₁ := 0) (r₂ := 0) (d₁ := ()) (d₂ := ()) (fd := f) (plan_duty m .depart c) (plan_duty m .arrive (mate c))
    () () N rfl (plan_amount m .depart c) (plan_amount m .arrive (mate c)) 0 (by rw [zero_add]) (W := W)
    (by rw [plan_payload]; exact BI.Entails.refl _)
    (by rw [plan_payload]; unfold pays; dsimp only; unfold recvPts; rw [transfer_eq, mate_mate])) $$ [Hs Hr HO Htd Hta]
  · isplitr; · iexact HId
    isplitr; · iexact HIa
    isplitl [Hs]; · iexact Hs
    isplitl [Hr]; · iexact Hr
    isplitl [HO]; · iexact HO
    isplitl [Htd]; · iexact Htd
    isplitr; · iexact Hrd
    isplitl [Hta]; · iexact Hta
    iexact Hra
  iexact Hk

/-! ## The call's data -/

/-- What the call's windows hold: the argument's block stays, the result's becomes `result`. -/
def dats (_ : Fin 1) (c : Dev nD) : Dat τ (Elt F) Unit ℕ Ghost ℕ cfg0 c where
  A w := m ((cfg0.win w).arr.view.loc (c : Thread nD τ))
  after w _ := match w with
    | ⟨0, _⟩ => xOf m c
    | ⟨1, _⟩ => result m c
  Φ t := match t with
    | ⟨0, _⟩ => before m c
    | ⟨_ + 1, _⟩ => after m c
  q _ := fullShare
  owed t := match t with
    | ⟨0, _⟩ => debts c
    | ⟨_ + 1, _⟩ => 0

/-- A window's buffer with contents `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_eq (c : Dev nD) (b : Ref sig .tc) (X : b.ty.Contents (Elt F)) :
    (owns (Ix := Unit) (Name := ℕ) (U := Ghost) (Lvl := ℕ) (c : Thread nD τ) (Memref.whole b) fullShare X : sProp 𝕄)
      = holds c b X := by
  unfold owns; simp only [Memref.view_whole, View.read_whole, View.set_whole]

/-- The staged argument is the device's block of it. -/
theorem staged_eq (c : Dev nD) (d) : (dats m 0 c).before (0 : Fin 2) t0_0 d = xOf m c := by
  unfold Dat.before; rw [if_pos (by rfl)]
  funext i
  exact congrArg (xOf m c) (funext fun a => Fin.ext
    ((cfg0.win (0 : Fin 2)).rect_emb_val_of_index_zero t0_0 a (by fin_cases a <;> rfl) i))

/-! ## The kernel -/

/-- What the kernel leaves. -/
def done (c : Dev nD) : sProp 𝕄 :=
  iprop(after m c ∗ (dats m 0 c).owesAt () t0_0.succ ∗ holds c cc0_stg0_0 (xOf m c) ∗ holds c cc0_stg1_0 (result m c))

set_option maxHeartbeats 1600000 in
/-- From what a device starts with, its kernel ends with `done`. -/
theorem kernel_run (c : Dev nD) :
    iprop(before m c ∗ (dats m 0 c).owesAt () t0_0.castSucc
        ∗ (∃ d, holds c cc0_stg0_0 ((dats m 0 c).before (0 : Fin 2) t0_0 d))
        ∗ (∃ d, holds c cc0_stg1_0 ((dats m 0 c).before (1 : Fin 2) t0_0 d)))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3) fun _ => done m c := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold before start
  simp only [places_eq]
  iintro ⟨⟨⟨⟨%K, #HR, ⟨Hag, Had, Haa⟩, Htg, Htd, Hta⟩, ⟨Hcg, Hca⟩, #Hlev⟩, ⟨%fs, Hs⟩, ⟨%fr, Hr⟩⟩, Ho, ⟨%d0, %g0, %hg0, Hx⟩, ⟨%d1, %g1, %hg1, Hout⟩⟩
  have hx : g0 = xOf m c := hg0.trans (staged_eq m c d0)
  subst hx
  unfold Dat.owesAt Pipeline.owesWithin
  icases Ho with ⟨%W, %hW, HO⟩
  rw [show (dats m 0 c).owed t0_0.castSucc = debts c from rfl]
  simp only [signalled_eq c]
  -- narrow the columns that go and store them
  iapply (wp_load 𝒱₀ (c : Thread nD τ) none Set.univ (m := inB) (Finset.subset_univ _)) $$ Hx; iintro Hx
  ihave Hs := (Entails.of_eq (sendPts_eq c fs)) $$ Hs
  iapply (wp_load 𝒱₀ (c : Thread nD τ) none Set.univ (m := sendB) (Finset.subset_univ _)) $$ Hs; iintro Hs
  iapply (wp_store 𝒱₀ (c : Thread nD τ) none Set.univ (m := sendB) (r := allOf) (Mk := Finset.univ) (Finset.subset_univ _)) $$ Hs; iintro Hs
  rw [store_send]
  -- meet the mate: hand it the buffer received into, and take its own
  unfold debts
  iapply (Rounds.wp_signal 𝒱₀ ER (plan m) (c : Thread nD τ) none (dst := (mate c : Thread nD τ)) (κ := K (.gate, mate c))
      (plan_duty m .gate (mate c)) ((plan_amount m .gate (mate c)).trans (by decide)) () (debt c) rfl) $$ [HO Htg Hr]
  · isplitr; · iapply (records_inv m K .gate (mate c)); iexact HR
    isplitl [HO]; · iexact HO
    isplitl [Htg]; · iexact Htg
    isplitl [Hr]
    · rw [plan_payload m .gate (mate c)]; unfold pays; dsimp only; rw [mate_mate]
      isplitl [Hr]; · iexists fr; iexact Hr
      iapply (records_reached m K .arrive c); iexact HR
    · iapply (records_reached m K .gate (mate c)); iexact HR
  iintro HO
  iapply (wp_collect m K c .gate (wpE_semWait_eq 𝒱₀ (c : Thread nD τ) none Set.univ) (debt c) W) $$ [Hcg HO Hag]
  · isplitr; · iexact HR
    isplitl [Hcg]; · iexact Hcg
    isplitl [HO]; · iexact HO
    isplitr; · iapply (may_wait_gate c); iexact Hlev
    iexact Hag
  iintro ⟨HO, Hzg, Hpay⟩
  unfold pays
  icases Hpay with ⟨⟨%fm, Hm⟩, -⟩
  -- send
  iapply (wp_give m K c _ (target_eq c) fm (insert (Port.sem .gate, ()) W)) $$ [Hs Hm HO Htd Hta]
  · isplitr; · iexact HR
    isplitl [Hs]; · rw [sendPts_eq]; iexact Hs
    isplitl [Hm]; · iexact Hm
    isplitl [HO]; · iexact HO
    isplitl [Htd] <;> iassumption
  iintro ⟨Hcd, HO⟩
  -- the block that stays
  iapply (wp_load 𝒱₀ (c : Thread nD τ) none Set.univ (m := inB) (Finset.subset_univ _)) $$ Hx; iintro Hx
  iapply (wp_load 𝒱₀ (c : Thread nD τ) none Set.univ (m := outB) (Finset.subset_univ _)) $$ Hout; iintro Hout
  iapply (wp_store 𝒱₀ (c : Thread nD τ) none Set.univ (m := outB) (r := nearRows c) (Mk := Finset.univ) (Finset.subset_univ _)) $$ Hout; iintro Hout
  -- the transfers' two ends
  iapply (wp_collect m K c .depart (wpE_waitDma2_eq 𝒱₀ (c : Thread nD τ) none Set.univ (src := recvB) (dst := sendB)) 0 (insert (Port.sem .gate, ()) W)) $$ [Hcd HO Had]
  · isplitr; · iexact HR
    isplitl [Hcd]; · iexact Hcd
    isplitl [HO]; · iexact HO
    isplitr; · rw [MayWait_zero]; iempintro
    iexact Had
  iintro ⟨HO, Hzd, Hs⟩
  iapply (wp_collect m K c .arrive (wpE_waitDma2_eq 𝒱₀ (c : Thread nD τ) none Set.univ (src := sendB) (dst := recvB)) 0
      (insert (Port.sem .depart, ()) (insert (Port.sem .gate, ()) W))) $$ [Hca HO Haa]
  · isplitr; · iexact HR
    isplitl [Hca]; · iexact Hca
    isplitl [HO]; · iexact HO
    isplitr; · rw [MayWait_zero]; iempintro
    iexact Haa
  iintro ⟨HO, Hza, Hr⟩
  unfold pays
  -- the block that came
  ihave Hr := (Entails.of_eq (recvPts_eq c (sent m (mate c)))) $$ Hr
  iapply (wp_load 𝒱₀ (c : Thread nD τ) none Set.univ (m := recvB) (Finset.subset_univ _)) $$ Hr; iintro Hr
  rw [read_recv]
  iapply (wp_load 𝒱₀ (c : Thread nD τ) none Set.univ (m := outB) (Finset.subset_univ _)) $$ Hout; iintro Hout
  iapply (wp_store 𝒱₀ (c : Thread nD τ) none Set.univ (m := outB) (r := farRows c) (Mk := Finset.univ) (Finset.subset_univ _)) $$ Hout; iintro Hout
  rw [wp_ret]; imodintro
  unfold done after Dat.owesAt Pipeline.owesWithin
  rw [show (dats m 0 c).owed t0_0.succ = 0 from rfl]
  isplitl [Hs Hr Hzg Hzd Hza]
  · isplitl [Hs]; · iexact Hs
    isplitl [Hr]; · rw [recvPts_eq]; iexact Hr
    isplitl [Hzg]; · iexact Hzg
    isplitl [Hzd] <;> iassumption
  isplitl [HO]
  · iexists (insert (Port.sem .arrive, ()) (insert (Port.sem .depart, ()) (insert (Port.sem .gate, ()) W)))
    isplitr; · ipureintro; exact fun _ _ => Or.inl trivial
    iexact HO
  isplitl [Hx]
  · iexists _; isplitr; · (ipureintro; rfl)
    iexact Hx
  iexists (result m c); isplitr; · (ipureintro; rfl)
  rw [← result_of_stores m c g1]; iexact Hout

/-- The call's body does what its data say. -/
theorem body_obligation (c : Dev nD) : BodyObligation (dats (F := F) m 0 c) (defs₀ (F := F)) 𝒱₀ () Set.univ := fun t => by
  rw [fin_N0 t, bigSep_W0, bigSep_W0]
  simp only [owns_eq]
  exact kernel_run m c

end Cert.Swap

end
-- ==== Proof.Launch.lean ====
/-
  The sixteen kernels together.

  At the start the counters all read zero and nobody holds anything of anybody else's. `opened` puts every device's
  three counters under their invariants; `shared` lets every device see all of them and gives each the duties it pays,
  which are its mate's at the gate and on arrival and its own on departure. What the devices owe comes to exactly the
  credit each waits with (`credit_of`). `run` is the whole: every execution ends, with each device's argument as it was,
  its result the block `result`, and every counter at zero.
-/
module

public import proofs.«01_k».proof.Proof.Body
public import Idealize.ShloMosaic.Lib.Pipeline.CollectiveSegs

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

variable {F : FTy → Type} [FloatOps F]

local notation "𝕄" => MT nD τ sig Unit (Elt F) ℕ Ghost ℕ

variable (m : (ℓ : Loc nD τ sig) → Buf (Elt F) ℓ) (ρ : Dev nD → PrngReg)

/-! ## Conjunctions over ports and devices -/

omit [FloatOps F] in
/-- Over all ports of all devices, taken device by device. -/
theorem by_device (Φ : Port → Dev nD → sProp 𝕄) :
    bigSep Finset.univ (fun pc : Port × Dev nD => Φ pc.1 pc.2)
      = bigSep Finset.univ fun c => bigSep Finset.univ fun p => Φ p c :=
  (bigSep_univ_equiv (Equiv.prodComm (Dev nD) Port) _).trans (bigSep_univ_prod _)

omit [FloatOps F] in
/-- The three ports as a list. -/
theorem by_port (Φ : Port → sProp 𝕄) : bigSep Finset.univ Φ = iprop(Φ .gate ∗ Φ .depart ∗ Φ .arrive) :=
  bigSep_univ_eq_bigSepL [Port.gate, .depart, .arrive] (by decide) (by decide) Φ

/-! ## The ghost state at launch -/

/-- All ports of all devices, and their duties. -/
def allCells : Finset (GSem nD τ sig) := Finset.univ.map ⟨fun pc : Port × Dev nD => cell pc.1 pc.2, cell_inj⟩
def allDuties : Finset (GSem nD τ sig × ℕ × Unit) :=
  Finset.univ.map ⟨fun pc : Port × Dev nD => (cell pc.1 pc.2, 0, ()), fun _ _ h => cell_inj (congrArg Prod.fst h)⟩

/-- The ghost state: the call's own, and the schedule's. -/
def g₀ : Ghost :=
  (initOf (Pipeline.cells cfgs cellOf_inj) (Pipeline.launchToks cfgs cellOf_inj), initOf allCells allDuties)

/-- Device `c`'s part of the schedule's: its ports' states, positions, marks and duties. -/
def part (c : Dev nD) : sProp 𝕄 :=
  iprop((bigSep Finset.univ fun p : Port => roundState ER (plan m) (cell p c) 0)
    ∗ (bigSep Finset.univ fun p : Port => reached ER (cell p c) 0)
    ∗ (bigSep Finset.univ fun p : Port => atPos ER (cell p c) 0 ∅ 0)
    ∗ bigSep Finset.univ fun p : Port => dutyTok ER (cell p c) 0 ())

/-- The schedule's ghost state is the devices' parts. -/
theorem parts : BI.own (ER (initOf allCells allDuties)) ⊢ (|==> bigSep Finset.univ (part m) : sProp 𝕄) := by
  have hc (Φ : GSem nD τ sig → sProp 𝕄) :
      bigSep allCells Φ = bigSep Finset.univ fun c : Dev nD => bigSep Finset.univ fun p : Port => Φ (cell p c) := by
    unfold allCells; rw [bigSep_map]; exact by_device fun p c => Φ (cell p c)
  have hd : bigSep allDuties (fun x => (dutyTok ER x.1 x.2.1 x.2.2 : sProp 𝕄))
      = bigSep Finset.univ fun c : Dev nD => bigSep Finset.univ fun p : Port => dutyTok ER (cell p c) 0 () := by
    unfold allDuties; rw [bigSep_map]; exact by_device fun p c => dutyTok ER (cell p c) 0 ()
  refine (Rounds.fund ER (plan m) allCells allDuties).trans (BI.bupd_mono ?_)
  unfold part
  simp only [bigSep_sep']
  rw [hc, hc, hc, hd]
  exact BI.Entails.refl _

/-! ## The counters -/

/-- The two counters that are the kernel's own. -/
abbrev own : Fin 2 → SemLoc sig := fun | 0 => Port.sem .depart | 1 => Port.sem .arrive

theorem own_facts : Pipeline.OwnSemFacts cfg0.spec own := by decide

omit [FloatOps F] in
theorem own_eq (c : Dev nD) :
    (Pipeline.ownSems0 (Ix := Unit) (Name := ℕ) (U := Ghost) (Lvl := ℕ) (Val := Elt F) (τ := τ) own c : sProp 𝕄)
      = iprop(semVal (cell .depart c) 0 ∗ semVal (cell .arrive c) 0) := by
  rw [Pipeline.ownSems0_eq_of_list c own [0, 1] (by decide) (by decide)]; rfl

omit [FloatOps F] in
/-- The gate is the one counter that outlives the call. -/
theorem outer_eq (c : Dev nD) : (unscopedSems0 c : sProp 𝕄) = semVal (cell .gate c) 0 := by
  unfold unscopedSems0
  rw [bigSep_eq_bigSepL_of_eq [Port.sem .gate] (by decide) (by decide)]; rfl

/-- Device `c`'s counters, all zero, and its part, put under the invariants. -/
theorem opened (c : Dev nD) :
    iprop(Pipeline.ownSems0 (Ix := Unit) (Name := ℕ) (U := Ghost) (Lvl := ℕ) (Val := Elt F) (τ := τ) own c ∗ unscopedSems0 c ∗ part m c)
      ⊢ |={Set.univ}=> iprop((bigSep Finset.univ fun p : Port => iprop(∃ κ : ℕ, cellInv ER (plan m) κ (cell p c)))
          ∗ (bigSep Finset.univ fun p : Port => reached ER (cell p c) 0)
          ∗ (bigSep Finset.univ fun p : Port => atPos ER (cell p c) 0 ∅ 0)
          ∗ bigSep Finset.univ fun p : Port => dutyTok ER (cell p c) 0 ()) := by
  have hopen : iprop((bigSep Finset.univ fun p : Port => semVal (cell p c) 0)
        ∗ bigSep Finset.univ fun p : Port => roundState ER (plan m) (cell p c) 0)
      ⊢ (|={Set.univ}=> bigSep Finset.univ fun p : Port => iprop(∃ κ : ℕ, cellInv ER (plan m) κ (cell p c)) : sProp 𝕄) := by
    rw [← bigSep_sep']
    exact (bigSep_mono fun p _ => (Rounds.body_intro ER (plan m) (cell p c)).trans inv_alloc).trans (bigSep_fupd _ _)
  unfold part
  rw [own_eq, outer_eq]
  iintro ⟨⟨Hd, Ha⟩, Hg, Hst, Hrest⟩
  imod hopen $$ [Hd Ha Hg Hst] with HI
  · isplitl [Hd Ha Hg]
    · rw [by_port]
      isplitl [Hg]; · iexact Hg
      isplitl [Hd] <;> iassumption
    · iexact Hst
  imodintro
  isplitl [HI] <;> iassumption

omit [FloatOps F] in
/-- The duties, passed from the devices whose ports they are to those that pay them. -/
theorem duties_around :
    (bigSep Finset.univ fun c : Dev nD => bigSep Finset.univ fun p : Port => dutyTok ER (cell p c) 0 () : sProp 𝕄)
      = bigSep Finset.univ fun c : Dev nD => bigSep Finset.univ fun p : Port => dutyTok ER (cell p (payee p c)) 0 () := by
  rw [← by_device fun p c => (dutyTok ER (cell p c) 0 () : sProp 𝕄), ← by_device fun p c => (dutyTok ER (cell p (payee p c)) 0 () : sProp 𝕄),
    bigSep_univ_prod, bigSep_univ_prod]
  exact bigSep_congr fun p _ => bigSep_univ_equiv (payee p) fun c => (dutyTok ER (cell p c) 0 () : sProp 𝕄)

/-- Every device sees every invariant, and has its places. -/
theorem shared :
    (bigSep Finset.univ fun c : Dev nD => iprop((bigSep Finset.univ fun p : Port => iprop(∃ κ : ℕ, cellInv ER (plan m) κ (cell p c)))
          ∗ (bigSep Finset.univ fun p : Port => reached ER (cell p c) 0)
          ∗ (bigSep Finset.univ fun p : Port => atPos ER (cell p c) 0 ∅ 0)
          ∗ bigSep Finset.univ fun p : Port => dutyTok ER (cell p c) 0 ()) : sProp 𝕄)
      ⊢ bigSep Finset.univ fun c : Dev nD => iprop(∃ K, records m K ∗ places c) := by
  rw [bigSep_sep', bigSep_sep', bigSep_sep', duties_around,
    ← by_device fun p c => iprop(∃ κ : ℕ, cellInv ER (plan m) κ (cell p c)), ← by_device fun p c => reached ER (cell p c) 0]
  iintro ⟨HI, HR, Hat, Hd⟩
  ihave HK := (BI.bigSep_exists_pi Finset.univ
    (fun (pc : Port × Dev nD) (κ : ℕ) => (cellInv ER (plan m) κ (cell pc.1 pc.2) : sProp 𝕄))) $$ HI
  icases HK with ⟨%K, HI⟩
  iapply (BI.bigSep_with_persistent (R := records m K) (Φ := places) fun c _ => exists_intro (Φ := fun K => iprop(records m K ∗ places c)) K)
  isplitl [HI HR]
  · unfold records; isplitl [HI] <;> iassumption
  · unfold places; rw [bigSep_sep']
    isplitl [Hat] <;> iassumption

/-! ## The credit -/

/-- A debt at one port, looked up at another. -/
theorem tally_cell (p q : Port) (c d : Dev nD) (n : ℕ) :
    (tallyAt (cell q d) () n : CellTallies nD τ sig Unit) (cell p c) () = if (p, c) = (q, d) then n else 0 := by
  rw [tallyAt_apply]
  by_cases h : (p, c) = (q, d)
  · rw [if_pos h, if_pos ⟨congrArg (fun pc : Port × Dev nD => cell pc.1 pc.2) h, rfl⟩]
  · rw [if_neg h, if_neg fun h' => h (cell_inj h'.1)]

/-- The devices owe port `p` of device `c` together what its mate owes it. -/
theorem credit_of (p : Port) (c : Dev nD) (n : ℕ) (h : ∀ d, debts d (cell p c) () = if d = mate c then n else 0) :
    tallyOn (cell p c) (launchCredit (Pipeline.owing debts) 0 (cell p c)) = (tallyAt (cell p c) () n : CellTallies nD τ sig Unit) := by
  unfold tallyAt
  refine congrArg _ (Finsupp.ext fun u => ?_)
  cases u
  rw [Pipeline.launchCredit_owing, Finsupp.single_eq_same, Finset.sum_congr rfl fun d _ => h d,
    Finset.sum_ite_eq' Finset.univ (mate c) fun _ => n, if_pos (Finset.mem_univ _)]

theorem eq_mate_iff (c d : Dev nD) : c = mate d ↔ d = mate c :=
  ⟨fun h => by rw [h, mate_mate], fun h => by rw [h, mate_mate]⟩

theorem debts_gate (c d : Dev nD) : debts d (cell .gate c) () = if d = mate c then 1 else 0 := by
  unfold debts debt
  rw [Pi.add_apply, Finsupp.add_apply, tally_cell, tally_cell, if_neg (fun h => by cases congrArg Prod.fst h), Nat.zero_add]
  exact if_congr (by rw [Prod.mk.injEq, eq_mate_iff]; simp) rfl rfl

theorem debts_arrive (c d : Dev nD) : debts d (cell .arrive c) () = if d = mate c then N else 0 := by
  unfold debts debt
  rw [Pi.add_apply, Finsupp.add_apply, tally_cell, tally_cell, if_neg (c := (Port.arrive, c) = (Port.gate, mate d)) (fun h => by cases congrArg Prod.fst h), Nat.add_zero]
  exact if_congr (by rw [Prod.mk.injEq, eq_mate_iff]; simp) rfl rfl

omit [FloatOps F] in
/-- Each device gets the credit to wait at its gate and for its arrival. -/
theorem credits (c : Dev nD) :
    (Pipeline.launchCred debts c : sProp 𝕄) ⊢ iprop(cred (tallyAt (cell .gate c) () 1) ∗ cred (tallyAt (cell .arrive c) () N)) := by
  unfold Pipeline.launchCred
  rw [bigSep_univ_at _ (Port.sem .gate), credit_of .gate c 1 (debts_gate c)]
  refine sep_mono_right ?_
  rw [← credit_of .arrive c N (debts_arrive c)]
  exact bigSep_elim (Finset.mem_erase.mpr ⟨by decide, Finset.mem_univ _⟩)

/-! ## Into the kernel and out of it -/

/-- What a device holds at launch is what its kernel starts from. -/
theorem start_intro (c : Dev nD) :
    iprop(Pipeline.unscopedRestP Pipeline.Prefetch.none cfg0.spec c (fun b => m ((c : Thread nD τ).loc b)) ∗ levAts L lv
        ∗ Pipeline.launchCred debts c ∗ prngReg c (ρ c) ∗ ∃ K, records m K ∗ places c)
      ⊢ |={Set.univ}=> iprop(start m c ∗ emp) := by
  iintro ⟨-, Hlev, Hcr, -, HG⟩
  ihave Hc := (credits (F := F) c) $$ Hcr
  imodintro
  unfold start
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, ⟨%f, H0⟩, ⟨%g, H1⟩⟩
  isplitl [Hs]; · iexact Hs
  isplitl [H0]
  · iexists f; rw [sendPts_eq]; iexact H0
  · iexists g; rw [recvPts_eq]; iexact H1

theorem leave (c : Dev nD) :
    (dats m 0 c).Φ (Fin.last cfg0.N) ⊢ iprop(unscopedSems0 c ∗ Pipeline.ownSems0 own c ∗ Pipeline.scopedRest cfg0.spec c) := by
  rw [show (dats m 0 c).Φ (Fin.last cfg0.N) = after m c from rfl, scopedRest0_eq, own_eq, outer_eq]
  unfold after
  iintro ⟨H0, H1, Hg, Hda⟩
  isplitl [Hg]; · iexact Hg
  isplitl [Hda]; · iexact Hda
  isplitl [H0]
  · iexists (sent m c); rw [← sendPts_eq]; iexact H0
  · iexists (sent m (mate c)); rw [← recvPts_eq]; iexact H1

/-- The call's own transfers may be waited for at any time. -/
theorem staging_waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact may_wait_low c _ (by fin_cases w <;> fin_cases s <;> decide)
    · exact (by iintro -; iempintro : (levAts L lv : sProp 𝕄) ⊢ iprop(emp)).trans (Entails.of_eq (MayWait_zero ..).symm)

/-! ## The run -/

theorem share_full (c : Dev nD) (w : Fin cfg0.W) : (dats m 0 c).share w = fullShare := by unfold Dat.share; split <;> rfl

/-- At the end the argument's array holds what it held, -/
theorem end_arg (c : Dev nD) : (dats m 0 c).arrAt (0 : Fin 2) cfg0.N = m ((c : Thread nD τ).loc main_arg0) :=
  (dats m 0 c).arrAt_in (0 : Fin 2) rfl _

/-- and the result's array the block `result`. -/
theorem end_result (c : Dev nD) : (dats m 0 c).arrAt (1 : Fin 2) cfg0.N = result m c :=
  (dats m 0 c).arrAt_eq_of_after_last (1 : Fin 2) t0_0 (by decide +kernel) (result m c) fun _ => rfl

set_option maxRecDepth 8000 in
/-- Every execution of the sixteen devices from a memory with all counters at zero ends, and ends with each argument's
    block as it was, each result's block `result`, and every counter at zero. -/
theorem run : θ_run defs (onTc (τ := τ) (main (F := F))) (⟨m, fun _ => 0, ρ⟩ : MemSt nD τ sig (Elt F))
    (fun r => (∀ c : Dev nD, r.2.mem ((c : Thread nD τ).loc main_arg0) = m ((c : Thread nD τ).loc main_arg0)
      ∧ r.2.mem ((c : Thread nD τ).loc main_v1) = result m c) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := debts) (howed₀ := fun _ => rfl) (howedN := fun _ => rfl)
    (L := L) (lv := lv) (hL := L_of_ne) (hwaits := staging_waits m)
    (G := part m) (G' := fun c => iprop(∃ K, records m K ∗ places c)) (u₀ := g₀)
    (hu₀ := by
      unfold g₀
      iintro Hu
      ihave H := (ownU_pair _ _) $$ Hu
      icases H with ⟨HP, HX⟩
      imod (parts m) $$ HX with HG
      imodintro
      isplitl [HP] <;> iassumption)
    (hglob := ((bigSep_mono fun c _ => opened m c).trans (bigSep_fupd _ _)).trans (BI.fupd_mono (shared m)))
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨((h c).1 (0 : Fin 2)).trans (end_arg m c), ((h c).1 (1 : Fin 2)).trans (end_result m c)⟩,
      sem_eq_zero hs fun c => (h c).2.2⟩)

end Cert.Swap

end
-- ==== Proof.SameText.lean ====
/-
  The kernel and its reading over the extended reals are one text, written out twice. What is proved of the second, over
  any numbers, holds of the first: `defs_eq` says that their bodies are equal and `ends` carries the run over.
-/
module

public import proofs.«01_k».proof.Defs
public import proofs.«01_k».proof.Proof.Gen.Kernel
public import proofs.«01_k».proof.Proof.Launch

@[expose] public section

noncomputable section

namespace Cert.Swap

open Idealize.ShloMosaic Idealize.SL.Sem

/-- The kernels of the two texts are equal, -/
theorem kernels_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (_, _) => rfl

/-- and so are their calls of it. -/
theorem defs_eq : Cert.Kernel.defs (F := Bits) = Cert.KernelIdeal.defs (F := Bits) := by
  unfold Cert.Kernel.defs Cert.KernelIdeal.defs
  exact congrArg (Pipeline.defs _) kernels_eq

/-- The kernel over floating-point numbers ends on every run, its arguments unchanged and every counter at zero. -/
theorem ends : Cert.quiescent_Kernel := by
  intro m g _
  have same : θ_run (Cert.Kernel.defs (F := Bits)) (onTc (τ := Cert.Kernel.τ) (Cert.Kernel.main (F := Bits))) ⟨m, fun _ => 0, g⟩
      = θ_run (Cert.KernelIdeal.defs (F := Bits)) (onTc (τ := Cert.KernelIdeal.τ) (Cert.KernelIdeal.main (F := Bits))) ⟨m, fun _ => 0, g⟩ :=
    congrArg (fun D => θ_run D (onTc (τ := Cert.Kernel.τ) (Cert.Kernel.main (F := Bits))) ⟨m, fun _ => 0, g⟩) defs_eq
  rw [same]
  exact (θ_run _ _ _).mono (fun _ h => ⟨fun c => (h.1 c).1, h.2⟩) (run (F := Bits) m g)

end Cert.Swap

end
-- ==== Proof.Value.lean ====
/-
  What the result is over the extended reals.

  There a number narrowed to bf16 and widened again is the number itself, so nothing is computed: a device's result
  is read off two devices' blocks of the argument. `kept_at` and `received_at` say from where, and `result_eq` that,
  if the devices' blocks are the blocks of rows of one 1024 × 1024 array, their results are its blocks of columns.
-/
module

public import proofs.«01_k».proof.Proof.Contents
public import Idealize.ShloMosaic.Lib.Layout
public import Idealize.ShloMosaic.Lib.ValueIdx
public import Idealize.ShloMosaic.Lib.Pipeline.Value
public import Idealize.ShloMosaic.PureOps.Ideal

@[expose] public section

noncomputable section

namespace Cert.Swap

open Cert.KernelIdeal Cert.KernelIdeal.Gen
open Idealize.ShloMosaic Idealize.ShloMosaic.TcCoe Idealize.SL.Sem

variable (m : (ℓ : Loc nD τ sig) → Buf (Elt Ideal) ℓ)

/-- The kept columns are the device's own, from the near columns. -/
theorem kept_at (c : Dev nD) (j : S512x512.Idx) : kept m c j = xOf m c ((nearCols c).emb j) := by
  unfold kept k0_pay1
  rw [shapeCast_self]
  rfl

/-- The received columns are the mate's, from its far columns. -/
theorem received_at (c : Dev nD) (j : S512x512.Idx) : received m c j = xOf m (mate c) ((farCols (mate c)).emb j) := by
  unfold received sent k0_pay2 k0_pay3
  simp only [shapeCast_self]
  rfl

/-- A device's place on the first mesh axis is its side. -/
theorem side_eq (c : Dev nD) : Layout.meshLin [2, 2, 4] c.val [0] = c.val / 8 := by revert c; decide

/-- Where place `i` of a device's result lies in the whole array: the same row, and column `i 1` of its side. -/
theorem result_eq (X : FVec Ideal ⟨2, ![1024, 1024]⟩ .f32)
    (hX : ∀ c : Dev nD, xOf m c = Layout.blockN ⟨2, ![512, 1024]⟩ ⟨2, ![1024, 1024]⟩ (Layout.meshBlock [2, 2, 4] ![[0], []] c) X)
    (c : Dev nD) :
    result m c = Layout.blockN ⟨2, ![1024, 512]⟩ ⟨2, ![1024, 1024]⟩ (Layout.meshBlock [2, 2, 4] ![[], [0]] c) X := by
  have hs := side_le c
  have hm := side_mate c
  funext i
  have hi : (i 0).val < 1024 := (i 0).isLt
  unfold result
  rw [Layout.blockN_apply]
  by_cases h : (i 0).val / 512 = c.val / 8
  · rw [if_pos h, kept_at, hX, Layout.blockN_apply]
    have h0 : k0_off2 c 0 = 0 := by rw [k0_off2_eq]; rfl
    have h1 : k0_off2 c 1 = 512 * (c.val / 8) := by rw [k0_off2_eq]; rfl
    refine congrArg X (funext fun a => Fin.ext ?_)
    fin_cases a
    · show Layout.meshLin [2, 2, 4] c.val [0] * 512 + (k0_off2 c 0 + 1 * ((i 0).val % 512)) = 0 * 1024 + (i 0).val
      rw [side_eq, h0]; omega
    · show 0 * 1024 + (k0_off2 c 1 + 1 * (i 1).val) = Layout.meshLin [2, 2, 4] c.val [0] * 512 + (i 1).val
      rw [side_eq, h1]; omega
  · rw [if_neg h, received_at, hX, Layout.blockN_apply]
    have h0 : k0_off1 (mate c) 0 = 0 := by rw [k0_off1_eq]; rfl
    have h1 : k0_off1 (mate c) 1 = 512 - 512 * ((mate c).val / 8) := by rw [k0_off1_eq]; rfl
    refine congrArg X (funext fun a => Fin.ext ?_)
    fin_cases a
    · show Layout.meshLin [2, 2, 4] (mate c).val [0] * 512 + (k0_off1 (mate c) 0 + 1 * ((i 0).val % 512)) = 0 * 1024 + (i 0).val
      rw [side_eq, hm, h0]; omega
    · show 0 * 1024 + (k0_off1 (mate c) 1 + 1 * (i 1).val) = Layout.meshLin [2, 2, 4] c.val [0] * 512 + (i 1).val
      rw [side_eq, h1, hm]; omega

end Cert.Swap

end
-- ==== Proof.Reference.lean ====
/-
  The reference's run. The reference returns its argument: it ends with nothing changed, and it has no counters.
-/
module

public import proofs.«01_k».proof.Proof.Gen.ReferenceIdeal
public import Idealize.ShloMosaic.Lib.StableHlo.Run
public import Idealize.ShloMosaic.Lib.Quiescent
public import Idealize.ShloMosaic.PureOps.Ideal

@[expose] public section

noncomputable section

namespace Cert.Swap.Reference

open Cert.ReferenceIdeal Cert.ReferenceIdeal.Gen
open Idealize.ShloMosaic Idealize.ShloMosaic.TcCoe Idealize.SL.Sem

/-- Every execution of the reference from a memory with all counters at zero ends, with its array as it was and every
    counter at zero. -/
theorem run (m : (ℓ : Loc nD τ sig) → Buf (Elt Ideal) ℓ) (ρ : Dev nD → PrngReg) :
    θ_run defs (onTc (τ := τ) (main (F := Ideal))) (⟨m, fun _ => 0, ρ⟩ : MemSt nD τ sig (Elt Ideal))
      (fun r => (∀ c : Dev nD, r.2.mem ((c : Thread nD τ).loc main_arg0) = m ((c : Thread nD τ).loc main_arg0))
        ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.Swap.Reference

end
-- ==== Proof.lean ====
/-
  The certificate: the kernel of 16 devices that swaps blocks in pairs ends on every run with its arguments unchanged
  and every counter at zero, over floating-point numbers and over the extended reals, so does the reference, and over
  the extended reals the kernel's results are the blocks of columns of what the reference returns.

  `Proof/Contents` says what the buffers hold, `Proof/Protocol` what passes between the devices, `Proof/Body` runs one
  device's kernel and `Proof/Launch` all sixteen; `Proof/SameText` carries that over to floating-point numbers,
  `Proof/Value` compares the results with the whole array and `Proof/Reference` runs the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.SameText
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem

/-- The kernel over the extended reals. -/
theorem ideal_ends : Cert.quiescent_KernelIdeal :=
  fun m g _ => (θ_run _ _ _).mono (fun _ h => ⟨fun c => (h.1 c).1, h.2⟩) (Cert.Swap.run (F := Ideal) m g)

/-- The reference. -/
theorem reference_ends : Cert.quiescent_ReferenceIdeal :=
  fun m g _ => Cert.Swap.Reference.run m g

/-- The kernel's results are the blocks of columns of what the reference returns. -/
theorem same_values : Cert.algebraic_KernelIdeal_ReferenceIdeal :=
  fun m g m' g' _ hX => ⟨_,
    (θ_run _ _ _).mono (fun _ h c => ⟨(h.1 c).2.trans (Cert.Swap.result_eq m _ hX c), (h.1 c).1⟩) (Cert.Swap.run (F := Ideal) m g),
    (θ_run _ _ _).mono (fun _ h => ⟨h.1 0, h.1 0⟩) (Cert.Swap.Reference.run m' g')⟩

/-- All five claims. -/
theorem claim : Cert.Claim := ⟨Cert.Kernel.Gen.facts, Cert.KernelIdeal.Gen.facts, Cert.ReferenceIdeal.Gen.facts,
  Cert.Swap.ends, ideal_ends, reference_ends, trivial, same_values⟩

end Cert.Proof

end
